-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cells [hPre_finite_cells : Cert.Pre_finite_cells.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cells [hPre_finite_cells : Cert.Pre_finite_cells.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_cells [hKernelIdeal : Cert.KernelIdeal.Facts] [hPre_finite_cells : Cert.Pre_finite_cells.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cells m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_cells [hReferenceIdeal : Cert.ReferenceIdeal.Facts] [hPre_finite_cells : Cert.Pre_finite_cells.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cells m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_in" .f32 0x3B808081#32 ((1 / 255 : ℝ) : EReal)
  ∧ IdealRules.named_const.Statement Cert.KernelIdeal.κ "inv_out" .f32 0x3C820821#32 ((1 / 63 : ℝ) : EReal)

def algebraic_KernelIdeal_ReferenceIdeal_pre_finite_cells [hKernelIdeal : Cert.KernelIdeal.Facts] [hReferenceIdeal : Cert.ReferenceIdeal.Facts] [hPre_finite_cells : Cert.Pre_finite_cells.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cells m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_cells : Cert.Pre_finite_cells.Facts),
    quiescent_Kernel (hKernel := hKernel)
    ∧ quiescent_KernelIdeal (hKernelIdeal := hKernelIdeal)
    ∧ quiescent_KernelIdeal_pre_finite_cells (hKernelIdeal := hKernelIdeal) (hPre_finite_cells := hPre_finite_cells)
    ∧ quiescent_ReferenceIdeal (hReferenceIdeal := hReferenceIdeal)
    ∧ quiescent_ReferenceIdeal_pre_finite_cells (hReferenceIdeal := hReferenceIdeal) (hPre_finite_cells := hPre_finite_cells)
    ∧ preserves_Kernel_KernelIdeal
    ∧ algebraic_KernelIdeal_ReferenceIdeal_pre_finite_cells (hKernelIdeal := hKernelIdeal) (hReferenceIdeal := hReferenceIdeal) (hPre_finite_cells := hPre_finite_cells)
-- ==== Pre_finite_cells.lean ====
abbrev S1024x256 : Shape := ⟨2, ![1024, 256]⟩
abbrev S256x64 : Shape := ⟨2, ![256, 64]⟩
abbrev S256x64x14 : Shape := ⟨3, ![256, 64, 14]⟩
abbrev S45x10 : Shape := ⟨2, ![45, 10]⟩
abbrev S10 : Shape := ⟨1, ![10]⟩
abbrev S10x10 : Shape := ⟨2, ![10, 10]⟩
abbrev S10x15 : Shape := ⟨2, ![10, 15]⟩
abbrev S15 : Shape := ⟨1, ![15]⟩
abbrev S_ : Shape := ⟨0, ![]⟩
abbrev S2x10 : Shape := ⟨2, ![2, 10]⟩
abbrev S28x10 : Shape := ⟨2, ![28, 10]⟩

class Facts : Prop where
  bcast_S_S256x64 : S_.BroadcastsInDim S256x64 (![] : Fin 0 → Fin S256x64.rank)
  bcast_S_S256x64x14 : S_.BroadcastsInDim S256x64x14 (![] : Fin 0 → Fin S256x64x14.rank)
  slices_S45x10_S2x10_1_0 : S45x10.Slices ![1, 0] S2x10
  bcast_S_S2x10 : S_.BroadcastsInDim S2x10 (![] : Fin 0 → Fin S2x10.rank)
  slices_S45x10_S28x10_17_0 : S45x10.Slices ![17, 0] S28x10
  bcast_S_S28x10 : S_.BroadcastsInDim S28x10 (![] : Fin 0 → Fin S28x10.rank)

variable [Facts]

def fn_part1 {F : FTy → Type} [FloatOps F] (main_arg3 : FVec F S45x10 .f32) (main_v4 : IVec S256x64 1) (main_v9 : IVec S256x64x14 1) (main_v16 : IVec S2x10 1) (main_v17 : FVec F S28x10 .f32) : IVec S256x64 1 × IVec S256x64x14 1 × IVec S2x10 1 × IVec S28x10 1 :=
  let main_cst_5 : FVec F S_ .f32 := constant S_ .f32 0xFF800000#32
  let main_v18 : FVec F S28x10 .f32 := broadcastInDim S28x10 ![] bcast_S_S28x10 main_cst_5
  let main_v19 : IVec S28x10 1 := cmpf .ogt main_v17 main_v18
  let main_v20 : FVec F S28x10 .f32 := (extractStridedSlice S28x10 ![17, 0] · slices_S45x10_S28x10_17_0) main_arg3
  let main_cst_6 : FVec F S_ .f32 := constant S_ .f32 0x7F800000#32
  let main_v21 : FVec F S28x10 .f32 := broadcastInDim S28x10 ![] bcast_S_S28x10 main_cst_6
  let main_v22 : IVec S28x10 1 := cmpf .olt main_v20 main_v21
  let main_v23 : IVec S28x10 1 := andi main_v19 main_v22
  (main_v4, main_v9, main_v16, main_v23)

def fn {F : FTy → Type} [FloatOps F] (main_arg0 : FVec F S1024x256 .f32) (main_arg1 : FVec F S256x64 .f32) (main_arg2 : FVec F S256x64x14 .f32) (main_arg3 : FVec F S45x10 .f32) (main_arg4 : FVec F S10 .f32) (main_arg5 : FVec F S10x10 .f32) (main_arg6 : FVec F S10 .f32) (main_arg7 : FVec F S10x15 .f32) (main_arg8 : FVec F S15 .f32) : IVec S256x64 1 × IVec S256x64x14 1 × IVec S2x10 1 × IVec S28x10 1 :=
  let main_cst : FVec F S_ .f32 := constant S_ .f32 0xFF800000#32
  let main_v0 : FVec F S256x64 .f32 := broadcastInDim S256x64 ![] bcast_S_S256x64 main_cst
  let main_v1 : IVec S256x64 1 := cmpf .ogt main_arg1 main_v0
  let main_cst_0 : FVec F S_ .f32 := constant S_ .f32 0x7F800000#32
  let main_v2 : FVec F S256x64 .f32 := broadcastInDim S256x64 ![] bcast_S_S256x64 main_cst_0
  let main_v3 : IVec S256x64 1 := cmpf .olt main_arg1 main_v2
  let main_v4 : IVec S256x64 1 := andi main_v1 main_v3
  let main_cst_1 : FVec F S_ .f32 := constant S_ .f32 0xFF800000#32
  let main_v5 : FVec F S256x64x14 .f32 := broadcastInDim S256x64x14 ![] bcast_S_S256x64x14 main_cst_1
  let main_v6 : IVec S256x64x14 1 := cmpf .ogt main_arg2 main_v5
  let main_cst_2 : FVec F S_ .f32 := constant S_ .f32 0x7F800000#32
  let main_v7 : FVec F S256x64x14 .f32 := broadcastInDim S256x64x14 ![] bcast_S_S256x64x14 main_cst_2
  let main_v8 : IVec S256x64x14 1 := cmpf .olt main_arg2 main_v7
  let main_v9 : IVec S256x64x14 1 := andi main_v6 main_v8
  let main_v10 : FVec F S2x10 .f32 := (extractStridedSlice S2x10 ![1, 0] · slices_S45x10_S2x10_1_0) main_arg3
  let main_cst_3 : FVec F S_ .f32 := constant S_ .f32 0xFF800000#32
  let main_v11 : FVec F S2x10 .f32 := broadcastInDim S2x10 ![] bcast_S_S2x10 main_cst_3
  let main_v12 : IVec S2x10 1 := cmpf .ogt main_v10 main_v11
  let main_v13 : FVec F S2x10 .f32 := (extractStridedSlice S2x10 ![1, 0] · slices_S45x10_S2x10_1_0) main_arg3
  let main_cst_4 : FVec F S_ .f32 := constant S_ .f32 0x7F800000#32
  let main_v14 : FVec F S2x10 .f32 := broadcastInDim S2x10 ![] bcast_S_S2x10 main_cst_4
  let main_v15 : IVec S2x10 1 := cmpf .olt main_v13 main_v14
  let main_v16 : IVec S2x10 1 := andi main_v12 main_v15
  let main_v17 : FVec F S28x10 .f32 := (extractStridedSlice S28x10 ![17, 0] · slices_S45x10_S28x10_17_0) main_arg3
  fn_part1 (F := F) main_arg3 main_v4 main_v9 main_v16 main_v17
-- ==== Kernel.lean ====
abbrev S1024x256 : Shape := ⟨2, ![1024, 256]⟩
abbrev S256x64 : Shape := ⟨2, ![256, 64]⟩
abbrev S256x64x14 : Shape := ⟨3, ![256, 64, 14]⟩
abbrev S45x10 : Shape := ⟨2, ![45, 10]⟩
abbrev S10 : Shape := ⟨1, ![10]⟩
abbrev S10x10 : Shape := ⟨2, ![10, 10]⟩
abbrev S10x15 : Shape := ⟨2, ![10, 15]⟩
abbrev S15 : Shape := ⟨1, ![15]⟩
abbrev S14x64x256 : Shape := ⟨3, ![14, 64, 256]⟩
abbrev S1x10 : Shape := ⟨2, ![1, 10]⟩
abbrev S1x15 : Shape := ⟨2, ![1, 15]⟩
abbrev S1024x64 : Shape := ⟨2, ![1024, 64]⟩
abbrev S64x256 : Shape := ⟨2, ![64, 256]⟩
abbrev S14x64 : Shape := ⟨2, ![14, 64]⟩
abbrev S14x256 : Shape := ⟨2, ![14, 256]⟩
abbrev S64 : Shape := ⟨1, ![64]⟩
abbrev S64x1 : Shape := ⟨2, ![64, 1]⟩
abbrev S256 : Shape := ⟨1, ![256]⟩
abbrev S1x256 : Shape := ⟨2, ![1, 256]⟩
abbrev S14x10 : Shape := ⟨2, ![14, 10]⟩
abbrev S10x14 : Shape := ⟨2, ![10, 14]⟩
abbrev S10x64x256 : Shape := ⟨3, ![10, 64, 256]⟩
abbrev S10x64 : Shape := ⟨2, ![10, 64]⟩
abbrev S64x10 : Shape := ⟨2, ![64, 10]⟩
abbrev S10x256 : Shape := ⟨2, ![10, 256]⟩
abbrev S10x1 : Shape := ⟨2, ![10, 1]⟩
abbrev S1x64x256 : Shape := ⟨3, ![1, 64, 256]⟩
abbrev S10x1x1 : Shape := ⟨3, ![10, 1, 1]⟩
abbrev S10x64x1 : Shape := ⟨3, ![10, 64, 1]⟩
abbrev S10x1x256 : Shape := ⟨3, ![10, 1, 256]⟩
abbrev S1x1 : Shape := ⟨2, ![1, 1]⟩
abbrev S1024 : Shape := ⟨1, ![1024]⟩
abbrev S1024x1 : Shape := ⟨2, ![1024, 1]⟩

abbrev nBuf : Space → Nat
  | .hbm => 14
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S256x64x14, .f32⟩
  | .hbm, ⟨3, _⟩ => ⟨S45x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x15, .f32⟩
  | .hbm, ⟨8, _⟩ => ⟨S15, .f32⟩
  | .hbm, ⟨9, _⟩ => ⟨S14x64x256, .f32⟩
  | .hbm, ⟨10, _⟩ => ⟨S1x10, .f32⟩
  | .hbm, ⟨11, _⟩ => ⟨S1x10, .f32⟩
  | .hbm, ⟨12, _⟩ => ⟨S1x15, .f32⟩
  | .hbm, ⟨13, _⟩ => ⟨S1024x64, .f32⟩
  | .local _ .vmem, ⟨0, _⟩ => ⟨S1024x256, .f32⟩
  | .local _ .vmem, ⟨1, _⟩ => ⟨S256x64, .f32⟩
  | .local _ .vmem, ⟨2, _⟩ => ⟨S14x64x256, .f32⟩
  | .local _ .vmem, ⟨3, _⟩ => ⟨S45x10, .f32⟩
  | .local _ .vmem, ⟨4, _⟩ => ⟨S1x10, .f32⟩
  | .local _ .vmem, ⟨5, _⟩ => ⟨S10x10, .f32⟩
  | .local _ .vmem, ⟨6, _⟩ => ⟨S1x10, .f32⟩
  | .local _ .vmem, ⟨7, _⟩ => ⟨S10x15, .f32⟩
  | .local _ .vmem, ⟨8, _⟩ => ⟨S1x15, .f32⟩
  | .local _ .vmem, ⟨9, _⟩ => ⟨S1024x64, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S45x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "inv_in" => some ((1 / 255 : ℝ) : EReal)
  | "inv_out" => some ((1 / 63 : ℝ) : EReal)
  | _ => none
-- ==== ReferenceIdeal.lean ====
abbrev S1024x256 : Shape := ⟨2, ![1024, 256]⟩
abbrev S256x64 : Shape := ⟨2, ![256, 64]⟩
abbrev S256x64x14 : Shape := ⟨3, ![256, 64, 14]⟩
abbrev S45x10 : Shape := ⟨2, ![45, 10]⟩
abbrev S10 : Shape := ⟨1, ![10]⟩
abbrev S10x10 : Shape := ⟨2, ![10, 10]⟩
abbrev S10x15 : Shape := ⟨2, ![10, 15]⟩
abbrev S15 : Shape := ⟨1, ![15]⟩
abbrev S_ : Shape := ⟨0, ![]⟩
abbrev S64 : Shape := ⟨1, ![64]⟩
abbrev S1x64 : Shape := ⟨2, ![1, 64]⟩
abbrev S256 : Shape := ⟨1, ![256]⟩
abbrev S256x1 : Shape := ⟨2, ![256, 1]⟩
abbrev S64x14 : Shape := ⟨2, ![64, 14]⟩
abbrev S1x64x14 : Shape := ⟨3, ![1, 64, 14]⟩
abbrev S256x14 : Shape := ⟨2, ![256, 14]⟩
abbrev S256x1x14 : Shape := ⟨3, ![256, 1, 14]⟩
abbrev S256x64x1 : Shape := ⟨3, ![256, 64, 1]⟩
abbrev S256x64x45 : Shape := ⟨3, ![256, 64, 45]⟩
abbrev S256x64x10 : Shape := ⟨3, ![256, 64, 10]⟩
abbrev S1x1x10 : Shape := ⟨3, ![1, 1, 10]⟩
abbrev S256x64x15 : Shape := ⟨3, ![256, 64, 15]⟩
abbrev S1x1x15 : Shape := ⟨3, ![1, 1, 15]⟩
abbrev S1024x64 : Shape := ⟨2, ![1024, 64]⟩
abbrev S1024 : Shape := ⟨1, ![1024]⟩
abbrev S1024x1 : Shape := ⟨2, ![1024, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S256x64x14, .f32⟩
  | .hbm, ⟨3, _⟩ => ⟨S45x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x15, .f32⟩
  | .hbm, ⟨8, _⟩ => ⟨S15, .f32⟩
  | .hbm, ⟨9, _⟩ => ⟨S_, .f32⟩
  | .hbm, ⟨10, _⟩ => ⟨S64, .f32⟩
  | .hbm, ⟨11, _⟩ => ⟨S1x64, .f32⟩
  | .hbm, ⟨12, _⟩ => ⟨S256x64, .f32⟩
  | .hbm, ⟨13, _⟩ => ⟨S256x64, .f32⟩
  | .hbm, ⟨14, _⟩ => ⟨S_, .f32⟩
  | .hbm, ⟨15, _⟩ => ⟨S256x64, .f32⟩
  | .hbm, ⟨16, _⟩ => ⟨S256x64, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S256x64, .f32⟩
  | .hbm, ⟨21, _⟩ => ⟨S256x64, .f32⟩
  | .hbm, ⟨22, _⟩ => ⟨S_, .f32⟩
  | .hbm, ⟨23, _⟩ => ⟨S256x64, .f32⟩
  | .hbm, ⟨24, _⟩ => ⟨S256x64, .f32⟩
  | .hbm, ⟨25, _⟩ => ⟨S_, .f32⟩
  | .hbm, ⟨26, _⟩ => ⟨S64x14, .f32⟩
  | .hbm, ⟨27, _⟩ => ⟨S1x64x14, .f32⟩
  | .hbm, ⟨28, _⟩ => ⟨S256x64x14, .f32⟩
  | .hbm, ⟨29, _⟩ => ⟨S256x64x14, .f32⟩
  | .hbm, ⟨30, _⟩ => ⟨S_, .f32⟩
  | .hbm, ⟨31, _⟩ => ⟨S256x64x14, .f32⟩
  | .hbm, ⟨32, _⟩ => ⟨S256x64x14, .f32⟩
  | .hbm, ⟨33, _⟩ => ⟨S_, .f32⟩
  | .hbm, ⟨34, _⟩ => ⟨S256x14, .f32⟩
  | .hbm, ⟨35, _⟩ => ⟨S256x1x14, .f32⟩
  | .hbm, ⟨36, _⟩ => ⟨S256x64x14, .f32⟩
  | .hbm, ⟨37, _⟩ => ⟨S256x64x14, .f32⟩
  | .hbm, ⟨38, _⟩ => ⟨S_, .f32⟩
  | .hbm, ⟨39, _⟩ => ⟨S256x64x14, .f32⟩
  | .hbm, ⟨40, _⟩ => ⟨S256x64x14, .f32⟩
  | .hbm, ⟨41, _⟩ => ⟨S256x64x1, .f32⟩
  | .hbm, ⟨42, _⟩ => ⟨S256x64x1, .f32⟩
  | .hbm, ⟨43, _⟩ => ⟨S256x64x1, .f32⟩
  | .hbm, ⟨44, _⟩ => ⟨S256x64x45, .f32⟩
  | .hbm, ⟨45, _⟩ => ⟨S256x64x10, .f32⟩
  | .hbm, ⟨46, _⟩ => ⟨S1x1x10, .f32⟩
  | .hbm, ⟨47, _⟩ => ⟨S256x64x10, .f32⟩
  | .hbm, ⟨48, _⟩ => ⟨S256x64x10, .f32⟩
  | .hbm, ⟨49, _⟩ => ⟨S_, .f32⟩
  | .hbm, ⟨50, _⟩ => ⟨S256x64x10, .f32⟩
  | .hbm, ⟨51, _⟩ => ⟨S256x64x10, .f32⟩
  | .hbm, ⟨52, _⟩ => ⟨S256x64x10, .f32⟩
  | .hbm, ⟨53, _⟩ => ⟨S1x1x10, .f32⟩
  | .hbm, ⟨54, _⟩ => ⟨S256x64x10, .f32⟩
  | .hbm, ⟨55, _⟩ => ⟨S256x64x10, .f32⟩
  | .hbm, ⟨56, _⟩ => ⟨S_, .f32⟩
  | .hbm, ⟨57, _⟩ => ⟨S256x64x10, .f32⟩
  | .hbm, ⟨58, _⟩ => ⟨S256x64x10, .f32⟩
  | .hbm, ⟨59, _⟩ => ⟨S256x64x15, .f32⟩
  | .hbm, ⟨60, _⟩ => ⟨S1x1x15, .f32⟩
  | .hbm, ⟨61, _⟩ => ⟨S256x64x15, .f32⟩
  | .hbm, ⟨62, _⟩ => ⟨S256x64x15, .f32⟩
  | .hbm, ⟨63, _⟩ => ⟨S256x64x1, .f32⟩
  | .hbm, ⟨64, _⟩ => ⟨S256x64, .f32⟩
  | .hbm, ⟨65, _⟩ => ⟨S256x64, .f32⟩
  | .hbm, ⟨66, _⟩ => ⟨S1024x64, .f32⟩
  | .hbm, ⟨67, _⟩ => ⟨S_, .f32⟩
  | .hbm, ⟨68, _⟩ => ⟨S1024x64, .f32⟩
  | .hbm, ⟨69, _⟩ => ⟨S1024x64, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024x1, .f32⟩
  | .hbm, ⟨76, _⟩ => ⟨S1024x64, .f32⟩
  | .hbm, ⟨77, _⟩ => ⟨S1024x64, .f32⟩
  | .hbm, ⟨78, _⟩ => ⟨S1024x64, .f32⟩
  | .hbm, ⟨79, _⟩ => ⟨S_, .f32⟩
  | .hbm, ⟨80, _⟩ => ⟨S1024, .f32⟩
  | .hbm, ⟨81, _⟩ => ⟨S1024x1, .f32⟩
  | .hbm, ⟨82, _⟩ => ⟨S1024x64, .f32⟩
  | .hbm, ⟨83, _⟩ => ⟨S1024x64, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call2_cst : Ref sig .tc := ⟨.hbm, 67, rfl⟩
abbrev main_call2_v0 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Proof.Network.lean ====
/-
  The cell network and its softmax layer, written as plain functions of indices over the extended reals.

  Every weight of the 256 × 64 layer is a CELL `(i, o)`; a small two-layer network reads the cell's features and gives
  the weight's update. The two programs differ only in how they reach the first layer's value of a cell before its
  rectifier. So that value is a parameter `pre` here; `share` is everything after it, and `referencePre` and
  `kernelPre` are the two ways of computing it.
-/
module

public import Idealize.ShloMosaic.PureOps.Ideal

@[expose] public section

noncomputable section

namespace Cert.Network

open Idealize.ShloMosaic

/-! ## From the first layer's value to the result -/

section After

variable (X : Fin 1024 → Fin 256 → EReal) (w : Fin 256 → Fin 64 → EReal)
  (pre : Fin 256 → Fin 64 → Fin 10 → EReal) (W2 : Fin 10 → Fin 10 → EReal) (b2 : Fin 10 → EReal)
  (W3 : Fin 10 → EReal) (b3 : EReal)

/-- The second layer's value `d` of cell `(i, o)`, after its rectifier. -/
def second (i : Fin 256) (o : Fin 64) (d : Fin 10) : EReal :=
  max (∑ c, max (pre i o c) 0 * W2 c d + b2 d) 0

/-- The updated weight of cell `(i, o)`: the old one plus the third layer's first output. -/
def updated (i : Fin 256) (o : Fin 64) : EReal :=
  w i o + (∑ d, second pre W2 b2 i o d * W3 d + b3)

/-- The big layer's value `o` on input row `r`, after its rectifier. -/
def logit (r : Fin 1024) (o : Fin 64) : EReal :=
  max (∑ i, X r i * updated w pre W2 b2 W3 b3 i o) 0

/-- The greatest value of row `r` (no less than −∞). -/
def peak (r : Fin 1024) : EReal :=
  Finset.univ.fold max ⊥ fun o => logit X w pre W2 b2 W3 b3 r o

/-- The exponential of a value of row `r` less the row's greatest. -/
def lifted (r : Fin 1024) (o : Fin 64) : EReal :=
  Ideal.exp (logit X w pre W2 b2 W3 b3 r o - peak X w pre W2 b2 W3 b3 r)

/-- The softmax of row `r` at `o`: the result of both programs. -/
def share (r : Fin 1024) (o : Fin 64) : EReal :=
  Ideal.div (lifted X w pre W2 b2 W3 b3 r o) (∑ o', lifted X w pre W2 b2 W3 b3 r o')

end After

/-! ## The first layer's value, two ways

`w` is the cells' weight, `h` their 14 states; `a0`, `a1`, `a2` are the first layer's rows for the weight and its two
means, `A`, `B`, `C` its rows for the states and their two means; `b` is the bias. -/

section First

variable (w : Fin 256 → Fin 64 → EReal) (h : Fin 256 → Fin 64 → Fin 14 → EReal)
  (a0 a1 a2 : Fin 10 → EReal) (A B C : Fin 14 → Fin 10 → EReal) (b : Fin 10 → EReal)

/-- The reference's way: 45 features of the cell, each mean formed by taking the cell out of its sum and dividing. -/
def referencePre (i : Fin 256) (o : Fin 64) (c : Fin 10) : EReal :=
  w i o * a0 c + Ideal.div (∑ i', w i' o - w i o) ((255 : ℝ) : EReal) * a1 c
    + Ideal.div (∑ o', w i o' - w i o) ((63 : ℝ) : EReal) * a2 c
    + ∑ k, h i o k * A k c
    + ∑ k, Ideal.div (∑ i', h i' o k - h i o k) ((255 : ℝ) : EReal) * B k c
    + ∑ k, Ideal.div (∑ o', h i o' k - h i o k) ((63 : ℝ) : EReal) * C k c
    + b c

/-- The kernel's way: the cell's own share of its means goes into the coefficients, the whole sums are added apart. -/
def kernelPre (i : Fin 256) (o : Fin 64) (c : Fin 10) : EReal :=
  ∑ k, (A k c - B k c * ((1 / 255 : ℝ) : EReal) - C k c * ((1 / 63 : ℝ) : EReal)) * h i o k
    + w i o * (a0 c - a1 c * ((1 / 255 : ℝ) : EReal) - a2 c * ((1 / 63 : ℝ) : EReal))
    + ((∑ k, B k c * ∑ i', h i' o k) * ((1 / 255 : ℝ) : EReal)
        + (∑ i', w i' o) * (a1 c * ((1 / 255 : ℝ) : EReal)))
    + ((∑ k, C k c * ∑ o', h i o' k) * ((1 / 63 : ℝ) : EReal)
        + a2 c * ((∑ o', w i o') * ((1 / 63 : ℝ) : EReal)))
    + b c

end First

end Cert.Network

end
-- ==== Proof.Exclusion.lean ====
/-
  The algebra between the two programs: the kernel's and the reference's first-layer values of a cell are equal when
  the cells' weights and states are finite and so are the coefficients of their means. The coefficients of the weight
  and of the states themselves, and the bias, may be any extended reals.
-/
module

public import proofs.«01_k».proof.Proof.Network

@[expose] public section

noncomputable section

namespace Cert.Network

open Idealize.ShloMosaic

/-- The extended real of a finite sum of reals is the sum of the extended reals. -/
theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- Dividing a real by a nonzero real gives the real quotient. -/
theorem div_real (x y : ℝ) (hy : y ≠ 0) : Ideal.div (x : EReal) (y : EReal) = ((x * (1 / y) : ℝ) : EReal) := by
  rw [Ideal.div_coe hy, ← EReal.coe_mul]

/-- A real taken from any coefficient, the whole times a real: the product with the real moves out as a real. -/
theorem sub_real_mul (a : EReal) (r h : ℝ) : (a - (r : EReal)) * (h : EReal) = (h : EReal) * a + ((-(h * r) : ℝ) : EReal) := by
  induction a with
  | coe a =>
    rw [← EReal.coe_sub, ← EReal.coe_mul, ← EReal.coe_mul, ← EReal.coe_add]
    congr 1; ring
  | bot =>
    rcases lt_trichotomy h 0 with hh | hh | hh
    · simp [-EReal.coe_neg, -EReal.coe_mul, EReal.bot_mul_coe_of_neg hh, EReal.coe_mul_bot_of_neg hh]
    · subst hh; simp
    · simp [EReal.bot_mul_coe_of_pos hh, EReal.coe_mul_bot_of_pos hh]
  | top =>
    rcases lt_trichotomy h 0 with hh | hh | hh
    · simp [EReal.top_mul_coe_of_neg hh, EReal.coe_mul_top_of_neg hh]
    · subst hh; simp
    · simp [-EReal.coe_neg, -EReal.coe_mul, EReal.top_mul_coe_of_pos hh, EReal.coe_mul_top_of_pos hh]

/-- Two real products taken from any coefficient, the whole times a real. -/
theorem two_sub_mul (a : EReal) (b c u v h : ℝ) :
    (a - ((b * u : ℝ) : EReal) - ((c * v : ℝ) : EReal)) * (h : EReal)
      = (h : EReal) * a + ((-(h * (b * u + c * v)) : ℝ) : EReal) := by
  rw [← sub_real_mul, sub_eq_add_neg, sub_eq_add_neg, sub_eq_add_neg, EReal.coe_add,
    EReal.neg_add (.inl (EReal.coe_ne_bot _)) (.inl (EReal.coe_ne_top _)), sub_eq_add_neg, add_assoc]

/-- The identity over the reals: the terms that hold no coefficient of a weight or of a state themselves. -/
theorem exclusion_real (h b c s t : Fin 14 → ℝ) (w b' c' s' t' u v : ℝ) :
    ∑ k, -(h k * (b k * u + c k * v)) + -(w * (b' * u + c' * v)) + ((∑ k, b k * s k) * u + s' * (b' * u))
        + ((∑ k, c k * t k) * v + c' * (t' * v))
      = (s' - w) * u * b' + (t' - w) * v * c' + ∑ k, (s k - h k) * u * b k + ∑ k, (t k - h k) * v * c k := by
  have e : ∑ k, -(h k * (b k * u + c k * v)) + (∑ k, b k * s k) * u + (∑ k, c k * t k) * v
      = ∑ k, (s k - h k) * u * b k + ∑ k, (t k - h k) * v * c k := by
    rw [Finset.sum_mul, Finset.sum_mul, ← Finset.sum_add_distrib, ← Finset.sum_add_distrib, ← Finset.sum_add_distrib]
    exact Finset.sum_congr rfl fun k _ => by ring
  linear_combination e

/-- The kernel's first-layer value is the reference's, at every cell: the weights, the states and the coefficients of
    the means finite. -/
theorem kernelPre_eq_referencePre (w : Fin 256 → Fin 64 → ℝ) (h : Fin 256 → Fin 64 → Fin 14 → ℝ)
    (a0 : Fin 10 → EReal) (a1 a2 : Fin 10 → ℝ) (A : Fin 14 → Fin 10 → EReal) (B C : Fin 14 → Fin 10 → ℝ)
    (b : Fin 10 → EReal) (i : Fin 256) (o : Fin 64) (c : Fin 10) :
    kernelPre (fun i o => (w i o : EReal)) (fun i o k => (h i o k : EReal)) a0 (fun c => (a1 c : EReal))
        (fun c => (a2 c : EReal)) A (fun k c => (B k c : EReal)) (fun k c => (C k c : EReal)) b i o c
      = referencePre (fun i o => (w i o : EReal)) (fun i o k => (h i o k : EReal)) a0 (fun c => (a1 c : EReal))
        (fun c => (a2 c : EReal)) A (fun k c => (B k c : EReal)) (fun k c => (C k c : EReal)) b i o c := by
  unfold kernelPre referencePre
  simp only [mul_comm (w i o : EReal) (_ - _), ← coe_sum, ← EReal.coe_sub,
    ← EReal.coe_mul, div_real _ 255 (by norm_num), div_real _ 63 (by norm_num)]
  have e := congrArg (fun r : ℝ => (r : EReal)) (exclusion_real (fun k => h i o k) (fun k => B k c) (fun k => C k c)
    (fun k => ∑ i', h i' o k) (fun k => ∑ o', h i o' k) (w i o) (a1 c) (a2 c) (∑ i', w i' o) (∑ o', w i o')
    (1 / 255) (1 / 63))
  simp only [EReal.coe_add] at e
  set S : EReal := ∑ k, (h i o k : EReal) * A k c
  have regroup : ∀ T K1 K2 K3 K4 b : EReal,
      S + K1 + (T + K2) + K3 + K4 + b = S + T + (K1 + K2 + K3 + K4) + b := fun T K1 K2 K3 K4 b => by abel
  have regroup' : ∀ T R1 R2 R3 R4 b : EReal,
      T + R1 + R2 + S + R3 + R4 + b = S + T + (R1 + R2 + R3 + R4) + b := fun T R1 R2 R3 R4 b => by abel
  rw [regroup', ← e, ← regroup]
  simp only [two_sub_mul, Finset.sum_add_distrib, ← coe_sum]
  rfl

end Cert.Network

end
-- ==== Proof.KernelArray.lean ====
/-
  The kernel's result array after its run, as one function of the argument arrays.

  The kernel has one grid point and every window is its whole array. So the array after the run is the body's stored
  value of the whole arrays. Four of those are the arguments rearranged before the body runs: the states with their
  axes reversed and the three biases as one-row matrices.
-/
module

public import proofs.«01_k».proof.Proof.Gen.KernelIdeal.Value
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The body's result over the argument arrays of device `c`. -/
def result (c : Dev nD) : Buf (Elt F) ((c : Thread nD τ).loc main_v4) :=
  out0_9 (m ((c : Thread nD τ).loc main_arg0)) (m ((c : Thread nD τ).loc main_arg1))
    (transpose S14x64x256 [2, 1, 0] (m ((c : Thread nD τ).loc main_arg2)) transposes_S256x64x14_S14x64x256_2_1_0)
    (m ((c : Thread nD τ).loc main_arg3))
    (broadcastInDim S1x10 ![1] bcast_S10_S1x10_1 (m ((c : Thread nD τ).loc main_arg4)))
    (m ((c : Thread nD τ).loc main_arg5))
    (broadcastInDim S1x10 ![1] bcast_S10_S1x10_1 (m ((c : Thread nD τ).loc main_arg6)))
    (m ((c : Thread nD τ).loc main_arg7))
    (broadcastInDim S1x15 ![1] bcast_S15_S1x15_1 (m ((c : Thread nD τ).loc main_arg8)))

/-- Window 0's block is its whole array. -/
theorem block0 (c : Dev nD) (t : Fin cfg0.N) : iblk m c 0 t = V m c main_arg0 := by
  funext y
  show V m c main_arg0 (((cfg0.win 0).blk t).view.emb y) = _
  congr 1
  blk_ext [show win0_0.index t = fun _ => 0 from rfl]
/-- Window 1's block is its whole array. -/
theorem block1 (c : Dev nD) (t : Fin cfg0.N) : iblk m c 1 t = V m c main_arg1 := by
  funext y
  show V m c main_arg1 (((cfg0.win 1).blk t).view.emb y) = _
  congr 1
  blk_ext [show win0_1.index t = fun _ => 0 from rfl]
/-- Window 2's block is its whole array. -/
theorem block2 (c : Dev nD) (t : Fin cfg0.N) : iblk m c 2 t = V m c main_v0 := by
  funext y
  show V m c main_v0 (((cfg0.win 2).blk t).view.emb y) = _
  congr 1
  blk_ext [show win0_2.index t = fun _ => 0 from rfl]
/-- Window 3's block is its whole array. -/
theorem block3 (c : Dev nD) (t : Fin cfg0.N) : iblk m c 3 t = V m c main_arg3 := by
  funext y
  show V m c main_arg3 (((cfg0.win 3).blk t).view.emb y) = _
  congr 1
  blk_ext [show win0_3.index t = fun _ => 0 from rfl]
/-- Window 4's block is its whole array. -/
theorem block4 (c : Dev nD) (t : Fin cfg0.N) : iblk m c 4 t = V m c main_v1 := by
  funext y
  show V m c main_v1 (((cfg0.win 4).blk t).view.emb y) = _
  congr 1
  blk_ext [show win0_4.index t = fun _ => 0 from rfl]
/-- Window 5's block is its whole array. -/
theorem block5 (c : Dev nD) (t : Fin cfg0.N) : iblk m c 5 t = V m c main_arg5 := by
  funext y
  show V m c main_arg5 (((cfg0.win 5).blk t).view.emb y) = _
  congr 1
  blk_ext [show win0_5.index t = fun _ => 0 from rfl]
/-- Window 6's block is its whole array. -/
theorem block6 (c : Dev nD) (t : Fin cfg0.N) : iblk m c 6 t = V m c main_v2 := by
  funext y
  show V m c main_v2 (((cfg0.win 6).blk t).view.emb y) = _
  congr 1
  blk_ext [show win0_6.index t = fun _ => 0 from rfl]
/-- Window 7's block is its whole array. -/
theorem block7 (c : Dev nD) (t : Fin cfg0.N) : iblk m c 7 t = V m c main_arg7 := by
  funext y
  show V m c main_arg7 (((cfg0.win 7).blk t).view.emb y) = _
  congr 1
  blk_ext [show win0_7.index t = fun _ => 0 from rfl]
/-- Window 8's block is its whole array. -/
theorem block8 (c : Dev nD) (t : Fin cfg0.N) : iblk m c 8 t = V m c main_v3 := by
  funext y
  show V m c main_v3 (((cfg0.win 8).blk t).view.emb y) = _
  congr 1
  blk_ext [show win0_8.index t = fun _ => 0 from rfl]

/-- The result array after the run is the body's result over the argument arrays. -/
theorem final (c : Dev nD) : (dats m 0 c).arrAt 9 cfg0.N = result m c := by
  refine (dats m 0 c).arrAt_eq_of_covers 9 _ (by decide +kernel) fun t hf y => ?_
  blk_simp
  rw [after0_9, block0, block1, block2, block3, block4, block5, block6, block7, block8]
  unfold result
  entry_read
  congr 1
  blk_ext [show win0_9.index t = fun _ => 0 from rfl]

end Cert.KernelIdeal.Array

end
-- ==== Proof.Cells.lean ====
/-
  The network of Network.lean over the argument arrays: each array read as a function of its coordinates.
-/
module

public import proofs.«01_k».proof.Proof.Network
public import Idealize.ShloMosaic.Lib.Pointwise

@[expose] public section

noncomputable section

namespace Cert.Cells

open Idealize.ShloMosaic Idealize.ShloMosaic.Pointwise

/-- An array of two axes as a function of its two coordinates. -/
abbrev at2 {n0 n1 : Nat} (x : (⟨2, ![n0, n1]⟩ : Shape).Idx → EReal) : Fin n0 → Fin n1 → EReal := fun i j => x (ix2 i j)

/-- An array of three axes as a function of its three coordinates. -/
abbrev at3 {n0 n1 n2 : Nat} (x : (⟨3, ![n0, n1, n2]⟩ : Shape).Idx → EReal) : Fin n0 → Fin n1 → Fin n2 → EReal :=
  fun i j k => x (ix3 i j k)

variable (W1 : (⟨2, ![45, 10]⟩ : Shape).Idx → EReal)

/-- Row `r` of the first layer's matrix. -/
abbrev row (r : Fin 45) : Fin 10 → EReal := fun c => W1 (ix2 r c)

/-- Fourteen rows of the first layer's matrix, from row `r`. -/
abbrev rows (r : Nat) (hr : r + 14 ≤ 45) : Fin 14 → Fin 10 → EReal :=
  fun k c => W1 (ix2 ⟨r + k.val, by omega⟩ c)

variable (X : (⟨2, ![1024, 256]⟩ : Shape).Idx → EReal) (w : (⟨2, ![256, 64]⟩ : Shape).Idx → EReal)
  (h : (⟨3, ![256, 64, 14]⟩ : Shape).Idx → EReal) (b1 : (⟨1, ![10]⟩ : Shape).Idx → EReal)
  (W2 : (⟨2, ![10, 10]⟩ : Shape).Idx → EReal) (b2 : (⟨1, ![10]⟩ : Shape).Idx → EReal)
  (W3 : (⟨2, ![10, 15]⟩ : Shape).Idx → EReal) (b3 : (⟨1, ![15]⟩ : Shape).Idx → EReal)

/-- The reference's first-layer value over the argument arrays. -/
abbrev referencePre : Fin 256 → Fin 64 → Fin 10 → EReal :=
  Network.referencePre (at2 w) (at3 h) (row W1 0) (row W1 1) (row W1 2) (rows W1 3 (by omega)) (rows W1 17 (by omega))
    (rows W1 31 (by omega)) (fun c => b1 (ix1 c))

/-- The kernel's first-layer value over the argument arrays. -/
abbrev kernelPre : Fin 256 → Fin 64 → Fin 10 → EReal :=
  Network.kernelPre (at2 w) (at3 h) (row W1 0) (row W1 1) (row W1 2) (rows W1 3 (by omega)) (rows W1 17 (by omega))
    (rows W1 31 (by omega)) (fun c => b1 (ix1 c))

/-- The result over the argument arrays, from a first-layer value `pre`. -/
abbrev share (pre : Fin 256 → Fin 64 → Fin 10 → EReal) : Fin 1024 → Fin 64 → EReal :=
  Network.share (at2 X) (at2 w) pre (at2 W2) (fun d => b2 (ix1 d)) (fun d => W3 (ix2 d 0)) (b3 (ix1 0))

end Cert.Cells

end
-- ==== Proof.Finite.lean ====
/-
  What the precondition `finite_cells` says of the argument arrays: the cells' weights and states are real numbers,
  and so are the rows 1, 2 and 17 to 44 of the first layer's matrix.
-/
module

public import proofs.«01_k».proof.Pre_finite_cells
public import Idealize.ShloMosaic.Lib.Pointwise

@[expose] public section

set_option maxRecDepth 16384

noncomputable section

namespace Cert.Finite

open Cert.Pre_finite_cells Idealize.ShloMosaic Idealize.ShloMosaic.Pointwise

/-- The shape relations the precondition's operations take. -/
instance facts : Cert.Pre_finite_cells.Facts where
  bcast_S_S256x64 := by decide
  bcast_S_S256x64x14 := by decide
  slices_S45x10_S2x10_1_0 := by decide
  bcast_S_S2x10 := by decide
  slices_S45x10_S28x10_17_0 := by decide
  bcast_S_S28x10 := by decide

/-- The word of −∞ at the ideal values. -/
theorem word_bot : Ideal.ofBits .f32 0xFF800000#32 = (⊥ : EReal) := by simp [Ideal.ofBits, Ideal.ieee]

/-- The word of +∞ at the ideal values. -/
theorem word_top : Ideal.ofBits .f32 0x7F800000#32 = (⊤ : EReal) := by simp [Ideal.ofBits, Ideal.ieee]

/-- Two comparisons joined, both set, hold; so a value found strictly between the infinities is a real number. -/
theorem real_of_between {x : EReal}
    (h : IntOp.andi (BitVec.ofBool (decide (Ideal.ofBits .f32 0xFF800000#32 < x)))
      (BitVec.ofBool (decide (x < Ideal.ofBits .f32 0x7F800000#32))) = 1#1) : x = ((x.toReal : ℝ) : EReal) := by
  have split : ∀ p q : Bool, IntOp.andi (BitVec.ofBool p) (BitVec.ofBool q) = 1#1 → p = true ∧ q = true := by decide
  obtain ⟨hb, ht⟩ := split _ _ h
  rw [word_bot, decide_eq_true_eq] at hb
  rw [word_top, decide_eq_true_eq] at ht
  exact (EReal.coe_toReal ht.ne hb.ne').symm

variable (x0 : FVec Ideal S1024x256 .f32) (x1 : FVec Ideal S256x64 .f32) (x2 : FVec Ideal S256x64x14 .f32)
  (x3 : FVec Ideal S45x10 .f32) (x4 : FVec Ideal S10 .f32) (x5 : FVec Ideal S10x10 .f32) (x6 : FVec Ideal S10 .f32)
  (x7 : FVec Ideal S10x15 .f32) (x8 : FVec Ideal S15 .f32)

/-- Its first part: every weight of a cell is a real number. -/
theorem weights (h : (fn (F := Ideal) x0 x1 x2 x3 x4 x5 x6 x7 x8).1 = fun _ => 1#1) (i : Fin 256) (o : Fin 64) :
    x1 (ix2 i o) = (((x1 (ix2 i o)).toReal : ℝ) : EReal) := by
  have e := congrFun h (ix2 i o)
  pointwise [fn, fn_part1] at e
  exact real_of_between e

/-- Its second part: every state of a cell is a real number. -/
theorem states (h : (fn (F := Ideal) x0 x1 x2 x3 x4 x5 x6 x7 x8).2.1 = fun _ => 1#1) (i : Fin 256) (o : Fin 64)
    (k : Fin 14) : x2 (ix3 i o k) = (((x2 (ix3 i o k)).toReal : ℝ) : EReal) := by
  have e := congrFun h (ix3 i o k)
  pointwise [fn, fn_part1] at e
  exact real_of_between e

/-- Its third part: rows 1 and 2 of the first layer, the coefficients of the weight's means, are real numbers. -/
theorem meanRows (h : (fn (F := Ideal) x0 x1 x2 x3 x4 x5 x6 x7 x8).2.2.1 = fun _ => 1#1) (k : Fin 2) (c : Fin 10)
    (r : Fin 45) (hr : r.val = 1 + k.val) : x3 (ix2 r c) = (((x3 (ix2 r c)).toReal : ℝ) : EReal) := by
  have e := congrFun h (ix2 k c)
  pointwise [fn, fn_part1] at e
  rw [show r = ⟨1 + k.val, by omega⟩ from Fin.ext hr]
  exact real_of_between e

/-- Its fourth part: rows 17 to 44 of the first layer, the coefficients of the states' means, are real numbers. -/
theorem stateMeanRows (h : (fn (F := Ideal) x0 x1 x2 x3 x4 x5 x6 x7 x8).2.2.2 = fun _ => 1#1) (k : Fin 28) (c : Fin 10)
    (r : Fin 45) (hr : r.val = 17 + k.val) : x3 (ix2 r c) = (((x3 (ix2 r c)).toReal : ℝ) : EReal) := by
  have e := congrFun h (ix2 k c)
  pointwise [fn, fn_part1] at e
  rw [show r = ⟨17 + k.val, by omega⟩ from Fin.ext hr]
  exact real_of_between e

end Cert.Finite

end
-- ==== Proof.KernelValue.lean ====
/-
  The kernel's result at an index, at the ideal values: the softmax of the network of Network.lean, its first layer's
  value computed the kernel's way.
-/
module

public import proofs.«01_k».proof.Proof.KernelArray
public import proofs.«01_k».proof.Proof.Cells
public import proofs.«01_k».proof.Proof.Finite
public import Idealize.ShloMosaic.PureOps.IdealRules

@[expose] public section

set_option maxRecDepth 16384

noncomputable section

namespace Cert.KernelIdeal.Body

open Cert.KernelIdeal Cert.KernelIdeal.Gen Idealize.ShloMosaic Idealize.ShloMosaic.TcCoe
open Idealize.ShloMosaic.Pointwise

/-! ## The two named constants -/

/-- The constant named `inv_in` is 1/255. -/
theorem inv_in : Named.named (F := Ideal) κ "inv_in" (φ := .f32) 0x3B808081#32 = ((1 / 255 : ℝ) : EReal) :=
  IdealRules.named_const.ideal_named_scalar _ _ _ _ rfl

/-- The constant named `inv_out` is 1/63. -/
theorem inv_out : Named.named (F := Ideal) κ "inv_out" (φ := .f32) 0x3C820821#32 = ((1 / 63 : ℝ) : EReal) :=
  IdealRules.named_const.ideal_named_scalar _ _ _ _ rfl

/-! ## The body's values at an index -/

section Payloads

variable (gt : FVec Ideal S14x64x256 .f32) (w : FVec Ideal S256x64 .f32)

/-- The states times the coefficients that hold the cell's own share of the means. -/
theorem core_apply (A B C : FVec Ideal S14x10 .f32) (c : Fin 10) (o : Fin 64) (i : Fin 256) :
    k0_pay5 (F := Ideal) gt A B C (ix3 c o i)
      = ∑ k, (A (ix2 k c) - B (ix2 k c) * ((1 / 255 : ℝ) : EReal) - C (ix2 k c) * ((1 / 63 : ℝ) : EReal)) * gt (ix3 k o i) := by
  pointwise [k0_pay5, k0_pay2, inv_in, inv_out]

/-- The correction that depends on the output unit: the sums over the input units. -/
theorem column_apply (B : FVec Ideal S14x10 .f32) (a1 : FVec Ideal S1x10 .f32) (c : Fin 10) (o : Fin 64) :
    k0_pay6 (F := Ideal) gt w B a1 (ix2 c o)
      = (∑ k, B (ix2 k c) * ∑ i, gt (ix3 k o i)) * ((1 / 255 : ℝ) : EReal)
        + (∑ i, w (ix2 i o)) * (a1 (ix2 0 c) * ((1 / 255 : ℝ) : EReal)) := by
  pointwise [k0_pay6, k0_pay2, k0_pay3, inv_in]

/-- The states' part of the correction that depends on the input unit, not yet divided. -/
theorem row_apply (C : FVec Ideal S14x10 .f32) (c : Fin 10) (i : Fin 256) :
    k0_pay7 (F := Ideal) gt C (ix2 c i) = ∑ k, C (ix2 k c) * ∑ o, gt (ix3 k o i) := by
  pointwise [k0_pay7, k0_pay2]

/-- The sum of an input unit's weights. -/
theorem rowSum_apply (i : Fin 256) : k0_pay4 (F := Ideal) w (ix2 0 i) = ∑ o, w (ix2 i o) := by
  pointwise [k0_pay4, k0_pay3]

/-- The weights, transposed. -/
theorem weight_apply (o : Fin 64) (i : Fin 256) : k0_pay3 (F := Ideal) w (ix2 o i) = w (ix2 i o) := by
  pointwise [k0_pay3]

/-- The second layer before its bias, from the pieces of the first layer's value. -/
theorem second_apply (wT : FVec Ideal S64x256 .f32) (rs : FVec Ideal S1x256 .f32) (core : FVec Ideal S10x64x256 .f32)
    (col : FVec Ideal S10x64 .f32) (row : FVec Ideal S10x256 .f32) (u : Ideal .f32) (a2 a0 a1 a2' b1 : FVec Ideal S1x10 .f32)
    (W2 : FVec Ideal S10x10 .f32) (d : Fin 10) (o : Fin 64) (i : Fin 256) :
    k0_pay8 (F := Ideal) wT rs core col row u a2 a0 a1 a2' b1 W2 (ix3 d o i)
      = ∑ c, W2 (ix2 c d) * max (core (ix3 c o i)
          + wT (ix2 o i) * (a0 (ix2 0 c) - a1 (ix2 0 c) * ((1 / 255 : ℝ) : EReal) - a2' (ix2 0 c) * ((1 / 63 : ℝ) : EReal))
          + col (ix2 c o) + (row (ix2 c i) * u + a2 (ix2 0 c) * (rs (ix2 0 i) * ((1 / 63 : ℝ) : EReal))) + b1 (ix2 0 c)) 0 := by
  pointwise [k0_pay8, inv_in, inv_out]

/-- The second layer before its bias, from the arrays the body loads: `A`, `B`, `C` and `a0`, `a1`, `a2` are the first
    layer's rows. -/
theorem layers_apply (h : FVec Ideal S256x64x14 .f32) (W1 : FVec Ideal S45x10 .f32) (b1 : FVec Ideal S10 .f32)
    (W2 : FVec Ideal S10x10 .f32) (A B C : FVec Ideal S14x10 .f32) (a0 a1 a2 b : FVec Ideal S1x10 .f32)
    (hg : ∀ k o i, gt (ix3 k o i) = h (ix3 i o k))
    (hA : ∀ k c, A (ix2 k c) = W1 (ix2 ⟨3 + k.val, by omega⟩ c)) (hB : ∀ k c, B (ix2 k c) = W1 (ix2 ⟨17 + k.val, by omega⟩ c))
    (hC : ∀ k c, C (ix2 k c) = W1 (ix2 ⟨31 + k.val, by omega⟩ c)) (h0 : ∀ c, a0 (ix2 0 c) = W1 (ix2 0 c))
    (h1 : ∀ c, a1 (ix2 0 c) = W1 (ix2 1 c)) (h2 : ∀ c, a2 (ix2 0 c) = W1 (ix2 2 c)) (hb : ∀ c, b (ix2 0 c) = b1 (ix1 c))
    (d : Fin 10) (o : Fin 64) (i : Fin 256) :
    k0_pay8 (F := Ideal) (k0_pay3 (F := Ideal) w) (k0_pay4 (F := Ideal) w) (k0_pay5 (F := Ideal) gt A B C)
        (k0_pay6 (F := Ideal) gt w B a1) (k0_pay7 (F := Ideal) gt C) (Named.named κ "inv_out" (φ := .f32) 0x3C820821#32)
        a2 a0 a1 a2 b W2 (ix3 d o i)
      = ∑ c, max (Cells.kernelPre W1 w h b1 i o c) 0 * W2 (ix2 c d) := by
  rw [second_apply]
  refine Finset.sum_congr rfl fun c _ => ?_
  rw [mul_comm, core_apply, column_apply, row_apply, rowSum_apply, weight_apply, inv_out]
  simp only [hg, hA, hB, hC, h0, h1, h2, hb]
  rfl

end Payloads

/-- The stored value at an index: the softmax of the big layer, from the second layer before its bias. -/
theorem stored_apply (wT : FVec Ideal S64x256 .f32) (s : FVec Ideal S10x64x256 .f32) (b2 : FVec Ideal S1x10 .f32)
    (W3 : FVec Ideal S10x15 .f32) (b3 : FVec Ideal S1x1 .f32) (X : FVec Ideal S1024x256 .f32)
    (pre : Fin 256 → Fin 64 → Fin 10 → EReal) (W2 : Fin 10 → Fin 10 → EReal)
    (hs : ∀ d o i, s (ix3 d o i) = ∑ c, max (pre i o c) 0 * W2 c d) (r : Fin 1024) (o : Fin 64) :
    k0_pay1 (F := Ideal) wT s b2 W3 b3 X (ix2 r o)
      = Network.share (Cells.at2 X) (fun i o => wT (ix2 o i)) pre W2 (fun d => b2 (ix2 0 d)) (fun d => W3 (ix2 d 0))
          (b3 (ix2 0 0)) r o := by
  pointwise [k0_pay1]
  simp only [hs, Finite.word_bot, Network.share, Network.lifted, Network.peak, Network.logit, Network.updated,
    Network.second, mul_comm (W3 _) _, add_assoc, Cells.at2]

/-! ## The body's loads -/

/-- The offset of a load from the start of two axes. -/
theorem zero2 : (![0, 0] : Fin 2 → Nat) = fun _ => 0 := by funext a; fin_cases a <;> rfl
/-- The offset of a load from the start of three axes. -/
theorem zero3 : (![0, 0, 0] : Fin 3 → Nat) = fun _ => 0 := by funext a; fin_cases a <;> rfl

section Loads

variable (W1 : FVec Ideal S45x10 .f32)

/-- Fourteen rows of the first layer's matrix, from row 3. -/
theorem rows3_apply (k : Fin 14) (c : Fin 10) : View.ld (Val := Elt Ideal) (e' := .f32) W1 r0_2 (ix2 k c) = W1 (ix2 ⟨3 + k.val, by omega⟩ c) := by
  pointwise [r0_2, View.ld_unit]
/-- The same from row 17. -/
theorem rows17_apply (k : Fin 14) (c : Fin 10) : View.ld (Val := Elt Ideal) (e' := .f32) W1 r0_3 (ix2 k c) = W1 (ix2 ⟨17 + k.val, by omega⟩ c) := by
  pointwise [r0_3, View.ld_unit]
/-- The same from row 31. -/
theorem rows31_apply (k : Fin 14) (c : Fin 10) : View.ld (Val := Elt Ideal) (e' := .f32) W1 r0_4 (ix2 k c) = W1 (ix2 ⟨31 + k.val, by omega⟩ c) := by
  pointwise [r0_4, View.ld_unit]
/-- Row 1 alone. -/
theorem row1_apply (c : Fin 10) : View.ld (Val := Elt Ideal) (e' := .f32) W1 r0_5 (ix2 0 c) = W1 (ix2 1 c) := by
  pointwise [r0_5, View.ld_unit]
/-- Row 2 alone. -/
theorem row2_apply (c : Fin 10) : View.ld (Val := Elt Ideal) (e' := .f32) W1 r0_6 (ix2 0 c) = W1 (ix2 2 c) := by
  pointwise [r0_6, View.ld_unit]
/-- Row 0 alone. -/
theorem row0_apply (c : Fin 10) : View.ld (Val := Elt Ideal) (e' := .f32) W1 r0_7 (ix2 0 c) = W1 (ix2 0 c) := by
  pointwise [r0_7, View.ld_unit]
/-- The corner of the third layer's bias. -/
theorem corner_apply (b3 : FVec Ideal S1x15 .f32) : View.ld (Val := Elt Ideal) (e' := .f32) b3 r0_11 (ix2 0 0) = b3 (ix2 0 0) := by
  pointwise [r0_11, View.ld_unit]

end Loads

/-- Loading the whole array of states reads it. -/
theorem load_states (x : FVec Ideal S14x64x256 .f32) : View.ld (Val := Elt Ideal) (e' := .f32) x r0_0 = x :=
  View.ld_unit_zero zero3 _ _
/-- Loading all weights reads them. -/
theorem load_weights (x : FVec Ideal S256x64 .f32) : View.ld (Val := Elt Ideal) (e' := .f32) x r0_1 = x :=
  View.ld_unit_zero zero2 _ _
/-- Loading a whole bias of ten reads it. -/
theorem load_bias (x : FVec Ideal S1x10 .f32) : View.ld (Val := Elt Ideal) (e' := .f32) x r0_8 = x :=
  View.ld_unit_zero zero2 _ _
/-- Loading the whole second matrix reads it. -/
theorem load_layer2 (x : FVec Ideal S10x10 .f32) : View.ld (Val := Elt Ideal) (e' := .f32) x r0_9 = x :=
  View.ld_unit_zero zero2 _ _
/-- Loading the whole third matrix reads it. -/
theorem load_layer3 (x : FVec Ideal S10x15 .f32) : View.ld (Val := Elt Ideal) (e' := .f32) x r0_10 = x :=
  View.ld_unit_zero zero2 _ _
/-- Loading all inputs reads them. -/
theorem load_inputs (x : FVec Ideal S1024x256 .f32) : View.ld (Val := Elt Ideal) (e' := .f32) x r0_12 = x :=
  View.ld_unit_zero zero2 _ _

/-- A bias of ten as a one-row matrix, read back. -/
theorem bias_apply (b : FVec Ideal S10 .f32) (d : Fin 10) :
    broadcastInDim S1x10 ![1] bcast_S10_S1x10_1 b (ix2 0 d) = b (ix1 d) := by
  pointwise
/-- The third layer's bias as a one-row matrix, read back. -/
theorem bias3_apply (b : FVec Ideal S15 .f32) (d : Fin 15) :
    broadcastInDim S1x15 ![1] bcast_S15_S1x15_1 b (ix2 0 d) = b (ix1 d) := by
  pointwise
/-- The states with their axes reversed, read back. -/
theorem states_apply (h : FVec Ideal S256x64x14 .f32) (k : Fin 14) (o : Fin 64) (i : Fin 256) :
    transpose S14x64x256 [2, 1, 0] h transposes_S256x64x14_S14x64x256_2_1_0 (ix3 k o i) = h (ix3 i o k) := by
  pointwise

/-! ## The result -/

/-- The body's result at an index, over arrays given as the arguments are. -/
theorem body_apply (X : FVec Ideal S1024x256 .f32) (w : FVec Ideal S256x64 .f32) (h : FVec Ideal S256x64x14 .f32)
    (W1 : FVec Ideal S45x10 .f32) (b1 : FVec Ideal S10 .f32) (W2 : FVec Ideal S10x10 .f32) (b2 : FVec Ideal S10 .f32)
    (W3 : FVec Ideal S10x15 .f32) (b3 : FVec Ideal S15 .f32) (r : Fin 1024) (o : Fin 64) :
    out0_9 (F := Ideal) X w (transpose S14x64x256 [2, 1, 0] h transposes_S256x64x14_S14x64x256_2_1_0) W1
        (broadcastInDim S1x10 ![1] bcast_S10_S1x10_1 b1) W2 (broadcastInDim S1x10 ![1] bcast_S10_S1x10_1 b2) W3
        (broadcastInDim S1x15 ![1] bcast_S15_S1x15_1 b3) (ix2 r o)
      = Cells.share X w W2 b2 W3 b3 (Cells.kernelPre W1 w h b1) r o := by
  unfold_out out0_9
  rw [View.canon_unit_zero zero2, stored_apply (pre := Cells.kernelPre W1 w h b1) (W2 := Cells.at2 W2)]
  · have e2 : (fun d => View.ld (Val := Elt Ideal) (e' := .f32) (broadcastInDim S1x10 ![1] bcast_S10_S1x10_1 b2) r0_8 (ix2 0 d))
        = fun d => b2 (ix1 d) := funext fun d => (congrFun (load_bias _) _).trans (bias_apply b2 d)
    simp only [load_inputs, load_weights, weight_apply]
    congr 1
    · exact funext fun d => congrFun (load_layer3 W3) _
    · exact (corner_apply _).trans (bias3_apply b3 0)
  · intro d o i
    rw [load_weights, load_states, load_layer2]
    exact layers_apply _ w h W1 b1 W2 _ _ _ _ _ _ _ (states_apply h) (rows3_apply W1) (rows17_apply W1) (rows31_apply W1)
      (row0_apply W1) (row1_apply W1) (row2_apply W1) (fun c => (congrFun (load_bias _) _).trans (bias_apply b1 c)) d o i

/-- The kernel's result at an index, from the argument arrays of device `c`. -/
theorem result_apply (m : (ℓ : Loc nD τ sig) → Buf (Elt Ideal) ℓ) (c : Dev nD) (r : Fin 1024) (o : Fin 64) :
    Array.result m c (ix2 r o)
      = Cells.share (m ((c : Thread nD τ).loc main_arg0)) (m ((c : Thread nD τ).loc main_arg1))
          (m ((c : Thread nD τ).loc main_arg5)) (m ((c : Thread nD τ).loc main_arg6)) (m ((c : Thread nD τ).loc main_arg7))
          (m ((c : Thread nD τ).loc main_arg8))
          (Cells.kernelPre (m ((c : Thread nD τ).loc main_arg3)) (m ((c : Thread nD τ).loc main_arg1))
            (m ((c : Thread nD τ).loc main_arg2)) (m ((c : Thread nD τ).loc main_arg4))) r o :=
  body_apply _ _ _ _ _ _ _ _ _ r o

end Cert.KernelIdeal.Body

end
-- ==== Proof.ReferenceValue.lean ====
/-
  The reference's result at an index, at the ideal values: the softmax of the network of Network.lean, its first
  layer's value computed the reference's way.
-/
module

public import proofs.«01_k».proof.Proof.Gen.ReferenceIdeal.Run
public import proofs.«01_k».proof.Proof.Gen.ReferenceIdeal.Read
public import proofs.«01_k».proof.Proof.Cells
public import proofs.«01_k».proof.Proof.Finite

@[expose] public section

set_option maxRecDepth 16384

noncomputable section

namespace Cert.ReferenceIdeal.Stages

open Cert.ReferenceIdeal Cert.ReferenceIdeal.Gen Cert.ReferenceIdeal.Read Idealize.ShloMosaic
open Idealize.ShloMosaic.Pointwise

/-! ## The divisors -/

/-- The word of 255. -/
theorem word_255 : Ideal.ofBits .f32 0x437F0000#32 = ((255 : ℝ) : EReal) := by
  simp [Ideal.ofBits, Ideal.ieee, -EReal.coe_mul]; norm_num

/-- The word of 63. -/
theorem word_63 : Ideal.ofBits .f32 0x427C0000#32 = ((63 : ℝ) : EReal) := by
  simp [Ideal.ofBits, Ideal.ieee, -EReal.coe_mul]; norm_num

/-! ## The sum over the 45 features -/

/-- A sum over 45 indices, cut at the features' borders: three single features and three runs of fourteen. -/
theorem sum_features (f : Fin 45 → EReal) :
    ∑ k, f k = f 0 + f 1 + f 2 + ∑ k : Fin 14, f ⟨3 + k.val, by omega⟩ + ∑ k : Fin 14, f ⟨17 + k.val, by omega⟩
      + ∑ k : Fin 14, f ⟨31 + k.val, by omega⟩ := by
  have e : ∑ k, f k = ∑ k : Fin (3 + 14 + 14 + 14), f k := rfl
  rw [e, Fin.sum_univ_add, Fin.sum_univ_add, Fin.sum_univ_add, Fin.sum_univ_three]
  rfl

variable (X : FVec Ideal S1024x256 .f32) (w : FVec Ideal S256x64 .f32) (h : FVec Ideal S256x64x14 .f32)
  (W1 : FVec Ideal S45x10 .f32) (b1 : FVec Ideal S10 .f32) (W2 : FVec Ideal S10x10 .f32) (b2 : FVec Ideal S10 .f32)
  (W3 : FVec Ideal S10x15 .f32) (b3 : FVec Ideal S15 .f32)

/-! ## The features -/

/-- The mean of the weights into output `o` from the other inputs. -/
theorem forwardMean_apply (i : Fin 256) (o : Fin 64) :
    val_main_v5 (F := Ideal) w (ix2 i o) = Ideal.div (∑ i', w (ix2 i' o) - w (ix2 i o)) ((255 : ℝ) : EReal) := by
  rw [← word_255]
  pointwise [val_main_v5, val_main_v4, val_main_cst_0, val_main_v3, val_main_v2, val_main_v1, val_main_v0, val_main_cst]

/-- The mean of the weights of input `i` to the other outputs. -/
theorem backwardMean_apply (i : Fin 256) (o : Fin 64) :
    val_main_v11 (F := Ideal) w (ix2 i o) = Ideal.div (∑ o', w (ix2 i o') - w (ix2 i o)) ((63 : ℝ) : EReal) := by
  rw [← word_63]
  pointwise [val_main_v11, val_main_v10, val_main_cst_2, val_main_v9, val_main_v8, val_main_v7, val_main_v6, val_main_cst_1]

/-- The mean of a state over the other inputs. -/
theorem forwardState_apply (i : Fin 256) (o : Fin 64) (k : Fin 14) :
    val_main_v17 (F := Ideal) h (ix3 i o k) = Ideal.div (∑ i', h (ix3 i' o k) - h (ix3 i o k)) ((255 : ℝ) : EReal) := by
  rw [← word_255]
  pointwise [val_main_v17, val_main_v16, val_main_cst_4, val_main_v15, val_main_v14, val_main_v13, val_main_v12, val_main_cst_3]

/-- The mean of a state over the other outputs. -/
theorem backwardState_apply (i : Fin 256) (o : Fin 64) (k : Fin 14) :
    val_main_v23 (F := Ideal) h (ix3 i o k) = Ideal.div (∑ o', h (ix3 i o' k) - h (ix3 i o k)) ((63 : ℝ) : EReal) := by
  rw [← word_63]
  pointwise [val_main_v23, val_main_v22, val_main_cst_6, val_main_v21, val_main_v20, val_main_v19, val_main_v18, val_main_cst_5]

/-- The features times the first layer's matrix. -/
theorem features_apply (i : Fin 256) (o : Fin 64) (c : Fin 10) :
    val_main_v28 (F := Ideal) w h W1 (ix3 i o c)
      = w (ix2 i o) * W1 (ix2 0 c) + val_main_v5 (F := Ideal) w (ix2 i o) * W1 (ix2 1 c)
        + val_main_v11 (F := Ideal) w (ix2 i o) * W1 (ix2 2 c)
        + ∑ k : Fin 14, h (ix3 i o k) * W1 (ix2 ⟨3 + k.val, by omega⟩ c)
        + ∑ k : Fin 14, val_main_v17 (F := Ideal) h (ix3 i o k) * W1 (ix2 ⟨17 + k.val, by omega⟩ c)
        + ∑ k : Fin 14, val_main_v23 (F := Ideal) h (ix3 i o k) * W1 (ix2 ⟨31 + k.val, by omega⟩ c) := by
  pointwise [val_main_v28, val_main_v27, val_main_v24, val_main_v25, val_main_v26]
  rw [sum_features]
  congr 1

/-- The first layer's value, before its rectifier. -/
theorem pre_apply (i : Fin 256) (o : Fin 64) (c : Fin 10) :
    val_main_v31 (F := Ideal) w h W1 b1 (ix3 i o c) = Cells.referencePre W1 w h b1 i o c := by
  pointwise [val_main_v31, val_main_v30, val_main_v29]
  rw [features_apply, forwardMean_apply, backwardMean_apply]
  simp only [forwardState_apply, backwardState_apply]
  rfl

/-- The updated weight of a cell. -/
theorem updated_apply (i : Fin 256) (o : Fin 64) :
    val_main_v44 (F := Ideal) w h W1 b1 W2 b2 W3 b3 (ix2 i o)
      = Network.updated (Cells.at2 w) (Cells.referencePre W1 w h b1) (Cells.at2 W2) (fun d => b2 (ix1 d))
          (fun d => W3 (ix2 d 0)) (b3 (ix1 0)) i o := by
  pointwise [val_main_v44, val_main_v43, val_main_v42, val_main_v41, val_main_v40, val_main_v39, val_main_v38, val_main_v37, val_main_call1_v0, val_main_call1_cst, val_main_v36, val_main_v35, val_main_v34, val_main_v33, val_main_v32, val_main_call0_v0, val_main_call0_cst]
  simp only [pre_apply]
  rfl

/-- The big layer's value. -/
theorem logit_apply (r : Fin 1024) (o : Fin 64) :
    val_main_v46 (F := Ideal) X w h W1 b1 W2 b2 W3 b3 (ix2 r o)
      = Network.logit (Cells.at2 X) (Cells.at2 w) (Cells.referencePre W1 w h b1) (Cells.at2 W2) (fun d => b2 (ix1 d))
          (fun d => W3 (ix2 d 0)) (b3 (ix1 0)) r o := by
  pointwise [val_main_v46, val_main_call2_v0, val_main_call2_cst, val_main_v45]
  simp only [updated_apply]
  rfl

/-- The greatest value of a row. -/
theorem peak_apply (r : Fin 1024) :
    val_main_v49 (F := Ideal) X w h W1 b1 W2 b2 W3 b3 (ix1 r)
      = Network.peak (Cells.at2 X) (Cells.at2 w) (Cells.referencePre W1 w h b1) (Cells.at2 W2) (fun d => b2 (ix1 d))
          (fun d => W3 (ix2 d 0)) (b3 (ix1 0)) r := by
  pointwise [val_main_v49, val_main_v48, val_main_cst_8, val_main_v47, val_main_cst_7]
  simp only [Finite.word_bot, logit_apply, bot_le, max_eq_right]
  rfl

/-- The exponential of a value less its row's greatest. -/
theorem lifted_apply (r : Fin 1024) (o : Fin 64) :
    val_main_v53 (F := Ideal) X w h W1 b1 W2 b2 W3 b3 (ix2 r o)
      = Network.lifted (Cells.at2 X) (Cells.at2 w) (Cells.referencePre W1 w h b1) (Cells.at2 W2) (fun d => b2 (ix1 d))
          (fun d => W3 (ix2 d 0)) (b3 (ix1 0)) r o := by
  pointwise [val_main_v53, val_main_v52, val_main_v51, val_main_v50]
  rw [logit_apply, peak_apply]
  rfl

/-- The reference's result at an index. -/
theorem result_apply (r : Fin 1024) (o : Fin 64) :
    val_main_v57 (F := Ideal) X w h W1 b1 W2 b2 W3 b3 (ix2 r o)
      = Cells.share X w W2 b2 W3 b3 (Cells.referencePre W1 w h b1) r o := by
  pointwise [val_main_v57, val_main_v56, val_main_v55, val_main_v54, val_main_cst_9]
  simp only [lifted_apply]
  rfl

end Cert.ReferenceIdeal.Stages

end
-- ==== Proof.Agree.lean ====
/-
  Where the cells are finite, the kernel's first-layer value over the argument arrays is the reference's; so the kernel's
  result array is the reference's.
-/
module

public import proofs.«01_k».proof.Proof.Exclusion
public import proofs.«01_k».proof.Proof.KernelValue
public import proofs.«01_k».proof.Proof.ReferenceValue

@[expose] public section

set_option maxRecDepth 16384

noncomputable section

namespace Cert.Agree

open Idealize.ShloMosaic Idealize.ShloMosaic.TcCoe Idealize.ShloMosaic.Pointwise
open Cert.Pre_finite_cells

section Arrays

variable (X : FVec Ideal S1024x256 .f32) (w : FVec Ideal S256x64 .f32) (h : FVec Ideal S256x64x14 .f32)
  (W1 : FVec Ideal S45x10 .f32) (b1 : FVec Ideal S10 .f32) (W2 : FVec Ideal S10x10 .f32) (b2 : FVec Ideal S10 .f32)
  (W3 : FVec Ideal S10x15 .f32) (b3 : FVec Ideal S15 .f32)

/-- The precondition read as one statement: all four parts of `finite_cells` are true everywhere. -/
abbrev FiniteCells : Prop :=
  (fn (F := Ideal) X w h W1 b1 W2 b2 W3 b3).1 = (fun _ => 1#1)
    ∧ (fn (F := Ideal) X w h W1 b1 W2 b2 W3 b3).2.1 = (fun _ => 1#1)
    ∧ (fn (F := Ideal) X w h W1 b1 W2 b2 W3 b3).2.2.1 = (fun _ => 1#1)
    ∧ (fn (F := Ideal) X w h W1 b1 W2 b2 W3 b3).2.2.2 = (fun _ => 1#1)

/-- Under the precondition the two ways of computing the first layer agree. -/
theorem pre_eq (hf : FiniteCells X w h W1 b1 W2 b2 W3 b3) :
    Cells.kernelPre W1 w h b1 = Cells.referencePre W1 w h b1 := by
  obtain ⟨hw, hs, hm, hsm⟩ := hf
  have ew : Cells.at2 w = fun i o => (((w (ix2 i o)).toReal : ℝ) : EReal) :=
    funext fun i => funext fun o => Finite.weights X w h W1 b1 W2 b2 W3 b3 hw i o
  have eh : Cells.at3 h = fun i o k => (((h (ix3 i o k)).toReal : ℝ) : EReal) :=
    funext fun i => funext fun o => funext fun k => Finite.states X w h W1 b1 W2 b2 W3 b3 hs i o k
  have e1 : Cells.row W1 1 = fun c => (((W1 (ix2 1 c)).toReal : ℝ) : EReal) :=
    funext fun c => Finite.meanRows X w h W1 b1 W2 b2 W3 b3 hm 0 c 1 rfl
  have e2 : Cells.row W1 2 = fun c => (((W1 (ix2 2 c)).toReal : ℝ) : EReal) :=
    funext fun c => Finite.meanRows X w h W1 b1 W2 b2 W3 b3 hm 1 c 2 rfl
  have eB : Cells.rows W1 17 (by omega) = fun k c => (((W1 (ix2 ⟨17 + k.val, by omega⟩ c)).toReal : ℝ) : EReal) :=
    funext fun k => funext fun c => Finite.stateMeanRows X w h W1 b1 W2 b2 W3 b3 hsm ⟨k.val, by omega⟩ c _ rfl
  have eC : Cells.rows W1 31 (by omega) = fun k c => (((W1 (ix2 ⟨31 + k.val, by omega⟩ c)).toReal : ℝ) : EReal) :=
    funext fun k => funext fun c =>
      Finite.stateMeanRows X w h W1 b1 W2 b2 W3 b3 hsm ⟨14 + k.val, by omega⟩ c _ (by simp only; omega)
  funext i o c
  show Network.kernelPre _ _ _ _ _ _ _ _ _ i o c = Network.referencePre _ _ _ _ _ _ _ _ _ i o c
  rw [ew, eh, e1, e2, eB, eC]
  exact Network.kernelPre_eq_referencePre _ _ _ _ _ _ _ _ _ i o c

end Arrays

open Cert.KernelIdeal in
/-- Under the precondition the kernel's result array is the reference's of the same arguments. -/
theorem result_eq (m : (ℓ : Loc nD τ sig) → Buf (Elt Ideal) ℓ) (c : Dev nD)
    (hf : FiniteCells (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8))) :
    Array.result m c
      = Cert.ReferenceIdeal.Read.val_main_v57 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  funext j
  obtain ⟨r, o, rfl⟩ : ∃ (r : Fin 1024) (o : Fin 64), j = ix2 r o := ⟨j 0, j 1, eq_ix2 j⟩
  refine (Body.result_apply m c r o).trans (Eq.trans ?_ (Cert.ReferenceIdeal.Stages.result_apply _ _ _ _ _ _ _ _ _ r o).symm)
  exact congrArg (fun p => Cells.share _ _ _ _ _ _ p r o) (pre_eq _ _ _ _ _ _ _ _ _ hf)

end Cert.Agree

end
-- ==== Proof.lean ====
/-
  The certificate's claims: the three programs run and leave their arguments and semaphores as they were, the kernel's
  two named constants are 1/255 and 1/63, and, the cells finite, the kernel's result array is the reference's.
-/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Lib.Quiescent

@[expose] public section

noncomputable section

namespace Cert.Proof

open Idealize.ShloMosaic Idealize.ShloMosaic.TcCoe Idealize.SL.Sem

/-- The kernel runs, its arguments stay, and every semaphore ends at zero. -/
theorem kernel_quiescent : Cert.quiescent_Kernel := fun m ρ _ => Cert.Kernel.Gen.frame m ρ

/-- The same of the kernel at the ideal values. -/
theorem kernelIdeal_quiescent : Cert.quiescent_KernelIdeal := fun m ρ _ => Cert.KernelIdeal.Gen.frame m ρ

/-- The same under the precondition, which it does not need. -/
theorem kernelIdeal_quiescent_finite : Cert.quiescent_KernelIdeal_pre_finite_cells :=
  fun m ρ _ => Cert.KernelIdeal.Gen.frame m ρ

/-- The reference runs from any memory, its arguments stay, and, having no semaphore, it leaves none raised. -/
theorem reference_quiescent : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition, which it does not need. -/
theorem reference_quiescent_finite : Cert.quiescent_ReferenceIdeal_pre_finite_cells :=
  fun m ρ _ => reference_quiescent m ρ trivial

/-- The two named constants have the values the kernel's table gives them. -/
theorem preserves : Cert.preserves_Kernel_KernelIdeal :=
  ⟨IdealRules.named_const.statement Cert.KernelIdeal.κ "inv_in" .f32 0x3B808081#32 ((1 / 255 : ℝ) : EReal) rfl,
    IdealRules.named_const.statement Cert.KernelIdeal.κ "inv_out" .f32 0x3C820821#32 ((1 / 63 : ℝ) : EReal) rfl⟩

/-- The kernel's result is the reference's, the cells finite: both end at the kernel's result array. -/
theorem algebraic : Cert.algebraic_KernelIdeal_ReferenceIdeal_pre_finite_cells := by
  intro m ρ m' ρ' hpre hagree
  refine ⟨fun c => Cert.KernelIdeal.Array.result m c, ?_, ?_⟩
  · exact (θ_run Cert.KernelIdeal.defs _ _).mono
      (fun _ h c => ⟨(h c).1.trans (Cert.KernelIdeal.Array.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    refine Eq.trans ?_ (Cert.Agree.result_eq m c (hpre c)).symm
    obtain ⟨a0, a1, a2, a3, a4, a5, a6, a7, a8⟩ := hagree c
    rw [Cert.ReferenceIdeal.Read.val_main_v57_eq, a0, a1, a2, a3, a4, a5, a6, a7, a8]

/-- Everything the certificate claims. -/
theorem claim : Cert.Claim :=
  ⟨Cert.Kernel.Gen.facts, Cert.KernelIdeal.Gen.facts, Cert.ReferenceIdeal.Gen.facts, Cert.Finite.facts, kernel_quiescent,
    kernelIdeal_quiescent, kernelIdeal_quiescent_finite, reference_quiescent, reference_quiescent_finite, preserves,
    algebraic⟩

end Cert.Proof

end
